-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S17 : Shape := ⟨1, ![17]⟩
abbrev S1024x1024 : Shape := ⟨2, ![1024, 1024]⟩
abbrev S1024 : Shape := ⟨1, ![1024]⟩
abbrev S1x1024 : Shape := ⟨2, ![1, 1024]⟩
abbrev S4x1024x1024 : Shape := ⟨3, ![4, 1024, 1024]⟩
abbrev S4 : Shape := ⟨1, ![4]⟩
abbrev S1 : Shape := ⟨1, ![1]⟩
abbrev S_ : Shape := ⟨0, ![]⟩
abbrev S1x1024x1024 : Shape := ⟨3, ![1, 1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S17, .i32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1x1024, .f32⟩
  | .local _ .vmem, ⟨2, _⟩ => ⟨S4x1024x1024, .f32⟩
  | .local _ .vmem, ⟨3, _⟩ => ⟨S4x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S17 : Shape := ⟨1, ![17]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S17, .i32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.SameText.lean ====
/-
  The kernel and its idealization are one text: no operation was rewritten, so the two programs' kernel tables and mains
  agree at any float values. A run of the one is a run of the other.
-/
module

public import proofs.«01_k».proof.Proof.Gen.Kernel
public import proofs.«01_k».proof.Proof.Gen.KernelIdeal

@[expose] public section

noncomputable section

namespace Cert.Proof.SameText

open Idealize.ShloMosaic

variable {F : FTy → Type} [FloatOps F]

/-- The two tables of kernels hold the same kernel. -/
theorem defs0_eq : (Cert.Kernel.defs₀ (F := F)) = Cert.KernelIdeal.defs₀ (F := F) := by
  unfold Cert.Kernel.defs₀ Cert.KernelIdeal.defs₀
  refine congrArg Defs.onTc ?_
  funext l a
  match l with
  | 0 => obtain ⟨t, s⟩ := a; rfl
/-- So do the tables with the pipeline's regions added. -/
theorem defs_eq : (Cert.Kernel.defs (F := F)) = Cert.KernelIdeal.defs (F := F) :=
  congrArg (Pipeline.defs (Cert.KernelIdeal.pcfgs (F := F))) defs0_eq
/-- The two mains are the same. -/
theorem main_eq : (Cert.Kernel.main (F := F)) = Cert.KernelIdeal.main (F := F) := rfl

end Cert.Proof.SameText

end
-- ==== Proof.Names.lean ====
/-
  The names this certificate gives to the kernel's views. The kernel streams the left operand, sixteen chunks of 1024
  rows, through a ring of four input slots, and streams the result out through a ring of four output slots. Every
  slice it takes is one of: input chunk `b`, output chunk `b`, input slot `s`, output slot `s`, the DMA semaphore of
  input slot `s`, the DMA semaphore of output slot `s`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Ring

open Cert.KernelIdeal Cert.KernelIdeal.Gen
open Idealize.ShloMosaic

/-- The left operand, the whole array in HBM. -/
abbrev inM : Memref sig .tc .hbm S16384x1024 .f32 := Memref.whole main_arg0
/-- The result, the whole array in HBM. -/
abbrev outM : Memref sig .tc .hbm S16384x1024 .f32 := Memref.whole main_v1
/-- The input ring, four slots. -/
abbrev inRing : Memref sig .tc .vmem S4x1024x1024 .f32 := Memref.whole cc0_scratch0
/-- The output ring, four slots. -/
abbrev outRing : Memref sig .tc .vmem S4x1024x1024 .f32 := Memref.whole cc0_scratch1

/-- Chunk `b` begins at row `1024 b`, column 0. -/
abbrev chunkOff (b : Fin 16) : Fin 2 → Nat := ![1024 * b.val, 0]
theorem chunkOff_inb (b : Fin 16) : ∀ a, chunkOff b a + S1024x1024.size a ≤ S16384x1024.size a := by
  have := b.isLt; intro a; fin_cases a
  · show 1024 * b.val + 1024 ≤ 16384; omega
  · show 0 + 1024 ≤ 1024; omega
/-- Slot `s` is plane `s` of its ring. -/
abbrev slotOff (s : Fin 4) : Fin 3 → Nat := ![s.val, 0, 0]
theorem slotOff_inb (s : Fin 4) : ∀ a, slotOff s a + S1x1024x1024.size a ≤ S4x1024x1024.size a := by
  have := s.isLt; intro a; fin_cases a
  · show s.val + 1 ≤ 4; omega
  · show 0 + 1024 ≤ 1024; omega
  · show 0 + 1024 ≤ 1024; omega
/-- Slot `s`'s semaphore is element `s` of its array. -/
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- The rectangle of chunk `b`. -/
abbrev chunkRect (b : Fin 16) : Rect S16384x1024 := Rect.unit (s := S16384x1024) (chunkOff b) S1024x1024.size (chunkOff_inb b)
/-- The rectangle of slot `s`. -/
abbrev slotRect (s : Fin 4) : Rect S4x1024x1024 := Rect.unit (s := S4x1024x1024) (slotOff s) S1x1024x1024.size (slotOff_inb s)

/-- Chunk `b` of the left operand. -/
def inChunk (b : Fin 16) : Memref sig .tc .hbm S1024x1024 .f32 := inM.slice (chunkRect b) (fun _ => rfl)
/-- Chunk `b` of the result. -/
def outChunk (b : Fin 16) : Memref sig .tc .hbm S1024x1024 .f32 := outM.slice (chunkRect b) (fun _ => rfl)
/-- Slot `s` of the input ring, as a matrix. -/
def inSlot (s : Fin 4) : Memref sig .tc .vmem S1024x1024 .f32 :=
  (inRing.slice (slotRect s) (fun _ => rfl)).squeeze S1024x1024 squeezes_S1x1024x1024_S1024x1024
/-- Slot `s` of the output ring, as a matrix. -/
def outSlot (s : Fin 4) : Memref sig .tc .vmem S1024x1024 .f32 :=
  (outRing.slice (slotRect s) (fun _ => rfl)).squeeze S1024x1024 squeezes_S1x1024x1024_S1024x1024
/-- The semaphore of input slot `s`. -/
def inSem (s : Fin 4) : DmaSems sig S_ := (cc0_scratch2.slice (Rect.unit (s := S4) (semOff s) S1.size (semOff_inb s))).squeeze S_ squeezes_S1_S_
/-- The semaphore of output slot `s`. -/
def outSem (s : Fin 4) : DmaSems sig S_ := (cc0_scratch3.slice (Rect.unit (s := S4) (semOff s) S1.size (semOff_inb s))).squeeze S_ squeezes_S1_S_

instance (s : Fin 4) : ClosedOff (slotOff s) := ⟨slotOff s, rfl⟩
instance (b : Fin 16) : ClosedOff (chunkOff b) := ⟨chunkOff b, rfl⟩

/-! ### A slice at chunk `b`'s, or slot `s`'s, offset is the one named -/

private theorem inChunk_congr {off : Fin 2 → Nat} {b : Fin 16} (e : off = chunkOff b) (hh hs) :
    inM.slice (Rect.unit (s := S16384x1024) off S1024x1024.size hh) hs = inChunk b := Memref.slice_unit_congr _ e _ _ _ (fun _ => rfl)
private theorem outChunk_congr {off : Fin 2 → Nat} {b : Fin 16} (e : off = chunkOff b) (hh hs) :
    outM.slice (Rect.unit (s := S16384x1024) off S1024x1024.size hh) hs = outChunk b := Memref.slice_unit_congr _ e _ _ _ (fun _ => rfl)
private theorem inSlot_congr {off : Fin 3 → Nat} {s : Fin 4} (e : off = slotOff s) (hh hs) :
    (inRing.slice (Rect.unit (s := S4x1024x1024) off S1x1024x1024.size hh) hs).squeeze S1024x1024 squeezes_S1x1024x1024_S1024x1024 = inSlot s :=
  congrArg (fun M : Memref sig .tc .vmem S1x1024x1024 .f32 => M.squeeze S1024x1024 squeezes_S1x1024x1024_S1024x1024) (Memref.slice_unit_congr _ e _ _ _ _)
private theorem outSlot_congr {off : Fin 3 → Nat} {s : Fin 4} (e : off = slotOff s) (hh hs) :
    (outRing.slice (Rect.unit (s := S4x1024x1024) off S1x1024x1024.size hh) hs).squeeze S1024x1024 squeezes_S1x1024x1024_S1024x1024 = outSlot s :=
  congrArg (fun M : Memref sig .tc .vmem S1x1024x1024 .f32 => M.squeeze S1024x1024 squeezes_S1x1024x1024_S1024x1024) (Memref.slice_unit_congr _ e _ _ _ _)
private theorem inSem_congr {off : Fin 1 → Nat} {s : Fin 4} (e : off = semOff s) (hh) :
    (cc0_scratch2.slice (Rect.unit (s := S4) off S1.size hh)).squeeze S_ squeezes_S1_S_ = inSem s :=
  congrArg (fun A : DmaSems sig S1 => A.squeeze S_ squeezes_S1_S_) (SemArray.slice_unit_congr _ e _ _)
private theorem outSem_congr {off : Fin 1 → Nat} {s : Fin 4} (e : off = semOff s) (hh) :
    (cc0_scratch3.slice (Rect.unit (s := S4) off S1.size hh)).squeeze S_ squeezes_S1_S_ = outSem s :=
  congrArg (fun A : DmaSems sig S1 => A.squeeze S_ squeezes_S1_S_) (SemArray.slice_unit_congr _ e _ _)

/-! ### The same at the numeral the kernel is printed with: the row a chunk begins at, the number of a slot -/

/-- The chunk that begins at row `n`. -/
def chunkFrom (n : Nat) : Fin 16 := Fin.ofNat 16 (n / 1024)
/-- The slot numbered `n`. -/
def slotNo (n : Nat) : Fin 4 := Fin.ofNat 4 n

private theorem chunkOff_from {n : Nat} (h : n % 1024 = 0) (hh : ∀ a, (![n, 0] : Fin 2 → Nat) a + S1024x1024.size a ≤ S16384x1024.size a) :
    ![n, 0] = chunkOff (chunkFrom n) := by
  have h0 : n + 1024 ≤ 16384 := hh 0
  have e : 1024 * (n / 1024 % 16) = n := by omega
  exact congrArg (fun r => ![r, 0]) e.symm
private theorem slotNo_val {n : Nat} (h : n + 1 ≤ 4) : n = (slotNo n).val := (Nat.mod_eq_of_lt (Nat.lt_of_succ_le h)).symm

@[sl_canon] theorem inChunk_from (n : Nat) (h : n % 1024 = 0) (hh hs) :
    inM.slice (Rect.unit (s := S16384x1024) ![n, 0] S1024x1024.size hh) hs = inChunk (chunkFrom n) := inChunk_congr (chunkOff_from h hh) _ _
@[sl_canon] theorem outChunk_from (n : Nat) (h : n % 1024 = 0) (hh hs) :
    outM.slice (Rect.unit (s := S16384x1024) ![n, 0] S1024x1024.size hh) hs = outChunk (chunkFrom n) := outChunk_congr (chunkOff_from h hh) _ _
@[sl_canon] theorem inSlot_no (n : Nat) (hh hs) :
    (inRing.slice (Rect.unit (s := S4x1024x1024) ![n, 0, 0] S1x1024x1024.size hh) hs).squeeze S1024x1024 squeezes_S1x1024x1024_S1024x1024 = inSlot (slotNo n) :=
  inSlot_congr (congrArg (fun r => ![r, 0, 0]) (slotNo_val (hh 0))) _ _
@[sl_canon] theorem outSlot_no (n : Nat) (hh hs) :
    (outRing.slice (Rect.unit (s := S4x1024x1024) ![n, 0, 0] S1x1024x1024.size hh) hs).squeeze S1024x1024 squeezes_S1x1024x1024_S1024x1024 = outSlot (slotNo n) :=
  outSlot_congr (congrArg (fun r => ![r, 0, 0]) (slotNo_val (hh 0))) _ _
@[sl_canon] theorem inSem_no (n : Nat) (hh) :
    (cc0_scratch2.slice (Rect.unit (s := S4) ![n] S1.size hh)).squeeze S_ squeezes_S1_S_ = inSem (slotNo n) := inSem_congr (congrArg (fun r => ![r]) (slotNo_val (hh 0))) _
@[sl_canon] theorem outSem_no (n : Nat) (hh) :
    (cc0_scratch3.slice (Rect.unit (s := S4) ![n] S1.size hh)).squeeze S_ squeezes_S1_S_ = outSem (slotNo n) := outSem_congr (congrArg (fun r => ![r]) (slotNo_val (hh 0))) _

end Cert.Proof.Ring

end
-- ==== Proof.Chunk.lean ====
/-
  What the kernel computes of one chunk, and what the whole result then is. A chunk is 1024 rows of the left operand;
  the kernel multiplies it by the weights, adds the bias to every row and keeps the positive part.
-/
module

public import proofs.«01_k».proof.Proof.Names
public import Idealize.ShloMosaic.Lib.ValueIdxCore

@[expose] public section

noncomputable section

namespace Cert.Proof.Ring

open Cert.KernelIdeal Cert.KernelIdeal.Gen
open Idealize.ShloMosaic Idealize.ShloMosaic.TcCoe Idealize.ShloMosaic.ValueIdx

variable {F : FTy → Type} [FloatOps F]

/-! ### One chunk -/

/-- The kernel's result for one chunk `a`, from the weights `w` and the bias row `r`. -/
def blockOf (a w : FVec F S1024x1024 .f32) (r : FVec F S1x1024 .f32) : FVec F S1024x1024 .f32 :=
  maximumf (addf (matmul dot_S1024x1024_S1024x1024_S1024x1024_1_0_0_1_n_n none a w (constant S1024x1024 .f32 0x00000000#32))
    (broadcastTo S1024x1024 r broadcasts_S1x1024_S1024x1024)) (broadcast S1024x1024 (Scalar.ofBits .f32 0x00000000#32))

/-- The rows of chunk `b`, out of an array of all the rows. -/
def rows (b : Fin 16) (x : FVec F S16384x1024 .f32) : FVec F S1024x1024 .f32 := fun j => x ((chunkRect b).emb j)

/-! ### The whole result -/

/-- The chunk the index `i` lies in. -/
def chunkAt (i : S16384x1024.Idx) : Fin 16 := ⟨(i 0).val / 1024, by have h : (i 0).val < 16384 := (i 0).isLt; omega⟩
/-- The index `i` within its chunk. -/
def within (i : S16384x1024.Idx) : S1024x1024.Idx := ix2 (⟨(i 0).val % 1024, Nat.mod_lt _ (by decide)⟩ : Fin 1024) (i 1 : Fin 1024)

/-- The result the kernel leaves, chunk by chunk. -/
def resultOf (x : FVec F S16384x1024 .f32) (w : FVec F S1024x1024 .f32) (r : FVec F S1x1024 .f32) : FVec F S16384x1024 .f32 :=
  fun i => blockOf (rows (chunkAt i) x) w r (within i)

theorem emb_row (b : Fin 16) (j : S1024x1024.Idx) : ((chunkRect b).emb j 0).val = 1024 * b.val + (j 0).val := by
  show 1024 * b.val + 1 * (j 0).val = _; omega
theorem emb_col (b : Fin 16) (j : S1024x1024.Idx) : ((chunkRect b).emb j 1).val = (j 1).val := by
  show 0 + 1 * (j 1).val = _; omega

theorem chunkAt_emb (b : Fin 16) (j : S1024x1024.Idx) : chunkAt ((chunkRect b).emb j) = b := by
  have h : (j 0).val < 1024 := (j 0).isLt
  refine Fin.ext ?_
  show ((chunkRect b).emb j 0).val / 1024 = b.val
  rw [emb_row]; omega
theorem within_emb (b : Fin 16) (j : S1024x1024.Idx) : within ((chunkRect b).emb j) = j := by
  have h : (j 0).val < 1024 := (j 0).isLt
  funext a; fin_cases a
  · refine Fin.ext ?_
    show ((chunkRect b).emb j 0).val % 1024 = (j 0).val
    rw [emb_row]; omega
  · refine Fin.ext ?_
    show ((chunkRect b).emb j 1).val = (j 1).val
    rw [emb_col]
theorem emb_within (i : S16384x1024.Idx) : (chunkRect (chunkAt i)).emb (within i) = i := by
  funext a; fin_cases a
  · refine Fin.ext ?_
    show ((chunkRect (chunkAt i)).emb (within i) 0).val = (i 0).val
    rw [emb_row]
    show 1024 * ((i 0).val / 1024) + (i 0).val % 1024 = (i 0).val
    omega
  · refine Fin.ext ?_
    show ((chunkRect (chunkAt i)).emb (within i) 1).val = (i 1).val
    rw [emb_col]; rfl

/-- Chunk `b` of the result is the kernel's result for chunk `b`. -/
theorem rows_resultOf (b : Fin 16) (x : FVec F S16384x1024 .f32) (w : FVec F S1024x1024 .f32) (r : FVec F S1x1024 .f32) :
    rows b (resultOf x w r) = blockOf (rows b x) w r := by
  funext j
  show blockOf (rows (chunkAt ((chunkRect b).emb j)) x) w r (within ((chunkRect b).emb j)) = _
  rw [chunkAt_emb, within_emb]

/-! ### Reading the views -/

/-- Input chunk `b` reads the rows of chunk `b`. -/
theorem read_inChunk (c : Dev nD) (b : Fin 16) (x : Buf (Elt F) (inM.view.loc (c : Thread nD τ))) :
    (inChunk b).view.read (Elt F) x = rows b x := rfl
/-- Output chunk `b` reads the rows of chunk `b`. -/
theorem read_outChunk (c : Dev nD) (b : Fin 16) (x : Buf (Elt F) (outM.view.loc (c : Thread nD τ))) :
    (outChunk b).view.read (Elt F) x = rows b x := rfl

/-- A view whose last write covered it whole reads that write. -/
theorem read_writes_last {sp : Space} {s : Shape} {e : EltTy} (v : View sig .tc sp s e) (f : v.ty.Contents (Elt F)) (x : s.Idx → Elt F e)
    (L : List (View.Piece (Elt F) s e)) : v.read (Elt F) (v.writes (Elt F) f (⟨Rect.whole s, x⟩ :: L)) = x := by
  funext y
  have h := View.read_writes_cons_emb v f (Rect.whole s) x L y
  rwa [Rect.emb_whole_apply] at h

/-- A load of input slot `s`'s plane of the ring, its unit axis dropped, reads the slot. -/
theorem load_inSlot (c : Dev nD) (s : Fin 4) (f : Buf (Elt F) (inRing.view.loc (c : Thread nD τ))) :
    shapeCast S1024x1024 (inRing.view.readAt (Elt F) (slotRect s).toLoadRect f) shapeCasts_S1x1024x1024_S1024x1024
      = (inSlot s).view.read (Elt F) f := rfl

/-- Output slot `s` reads what was last stored, a unit axis added, through its plane of the ring. -/
theorem read_outSlot (c : Dev nD) (s : Fin 4) (f : (outRing.access (slotRect s)).ty.Contents (Elt F)) (x : FVec F S1024x1024 .f32) :
    (outSlot s).view.read (Elt F) ((outRing.access (slotRect s)).write (Elt F) f
        (shapeCast S1x1024x1024 x shapeCasts_S1024x1024_S1x1024x1024) Finset.univ) = x := by
  have h : (outSlot s).view.read (Elt F) ((outRing.access (slotRect s)).write (Elt F) f
        (shapeCast S1x1024x1024 x shapeCasts_S1024x1024_S1x1024x1024) Finset.univ)
      = shapeCast S1024x1024 ((outRing.access (slotRect s)).read (Elt F) ((outRing.access (slotRect s)).write (Elt F) f
        (shapeCast S1x1024x1024 x shapeCasts_S1024x1024_S1x1024x1024) Finset.univ)) shapeCasts_S1x1024x1024_S1024x1024 := rfl
  rw [h, View.read_write_univ]
  exact funext fun i => congrArg x (by
    show Shape.reshapeEquiv _ (Shape.reshapeEquiv _ i) = i
    rw [Shape.reshapeEquiv_reshapeEquiv, Shape.reshapeEquiv_self])

/-- The weights and the bias row as the kernel's two loads read them. -/
abbrev loadW (c : Dev nD) (arg1 : Memref sig .tc .vmem S1024x1024 .f32) (g : Buf (Elt F) (arg1.view.loc (c : Thread nD τ))) : FVec F S1024x1024 .f32 :=
  arg1.view.readAt (Elt F) (Rect.unit (s := S1024x1024) ![0, 0] S1024x1024.size inb_S1024x1024_S1024x1024_0_0).toLoadRect g
abbrev loadB (c : Dev nD) (arg2 : Memref sig .tc .vmem S1x1024 .f32) (g : Buf (Elt F) (arg2.view.loc (c : Thread nD τ))) : FVec F S1x1024 .f32 :=
  shapeCast S1x1024 (arg2.view.readAt (Elt F) (Rect.unit (s := S1x1024) ![0, 0] S1x1024.size inb_S1x1024_S1x1024_0_0).toLoadRect g) shapeCasts_S1x1024_S1x1024

/-- What leaves through output slot `s`, once chunk `b` has landed in input slot `s` and the kernel has stored the
    product there: -/
abbrev leaving (c : Dev nD) (b : Fin 16) (s : Fin 4) (x : Buf (Elt F) (inM.view.loc (c : Thread nD τ)))
    (w : FVec F S1024x1024 .f32) (r : FVec F S1x1024 .f32) (f : (outRing.access (slotRect s)).ty.Contents (Elt F))
    (g : (inSlot s).view.ty.Contents (Elt F)) (L : List (View.Piece (Elt F) S1024x1024 .f32)) : FVec F S1024x1024 .f32 :=
  ReadAs.same.apply ((outSlot s).view.read (Elt F) ((outRing.access (slotRect s)).write (Elt F) f
    (shapeCast S1x1024x1024 (blockOf (shapeCast S1024x1024 (inRing.view.readAt (Elt F) (slotRect s).toLoadRect
      ((inSlot s).view.writes (Elt F) g (⟨Rect.whole S1024x1024, ReadAs.same.apply ((inChunk b).view.read (Elt F) x)⟩ :: L)))
      shapeCasts_S1x1024x1024_S1024x1024) w r) shapeCasts_S1024x1024_S1x1024x1024) Finset.univ))
/-- the rows of chunk `b` of the kernel's whole result. -/
theorem leaving_eq (c : Dev nD) (b : Fin 16) (s : Fin 4) (x : Buf (Elt F) (inM.view.loc (c : Thread nD τ)))
    (w : FVec F S1024x1024 .f32) (r : FVec F S1x1024 .f32) (f : (outRing.access (slotRect s)).ty.Contents (Elt F))
    (g : (inSlot s).view.ty.Contents (Elt F)) (L : List (View.Piece (Elt F) S1024x1024 .f32)) :
    leaving c b s x w r f g L = rows b (resultOf x w r) :=
  ((read_outSlot c s f _).trans (congrArg (fun a => blockOf a w r) (read_writes_last (inSlot s).view g (rows b x) L))).trans
    (rows_resultOf b x w r).symm

end Cert.Proof.Ring

end
-- ==== Proof.Body.lean ====
/-
  The kernel's run on one core. Before it: the weights and the bias row in VMEM, the left operand and the result array in
  HBM chunk by chunk, the two rings slot by slot at anything, every semaphore of the kernel's at zero. After it: the same,
  but for the result's chunks, each of which holds the kernel's result for that chunk.
-/
module

public import proofs.«01_k».proof.Proof.Chunk

@[expose] public section

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The resources -/

/-- The pipeline library's ghost state, beside the counters the kernel's own transfers ride on. -/
abbrev UU (nD : Nat) (τ : Topo) : Type := UR sig nD τ × Counters
local notation "𝕄" => MT nD τ sig Unit (Elt F) ℕ (UU nD τ) ℕ
/-- The kernel calls no other. -/
abbrev 𝒱₀ : Variants := Variants.none

section Pieces
variable (c : Dev nD)

/-- Input slot `s` at contents `f`. -/
abbrev inSlotP (s : Fin 4) (f : Buf (Elt F) ((inSlot s).view.loc (c : Thread nD τ))) : sProp 𝕄 :=
  (inSlot s).view.loc (c : Thread nD τ) ↦[(inSlot s).view.set]{fullShare} f
/-- Output slot `s` at contents `f`. -/
abbrev outSlotP (s : Fin 4) (f : Buf (Elt F) ((outSlot s).view.loc (c : Thread nD τ))) : sProp 𝕄 :=
  (outSlot s).view.loc (c : Thread nD τ) ↦[(outSlot s).view.set]{fullShare} f
/-- Slot `s`'s two semaphores at zero. -/
abbrev inCellP (s : Fin 4) : sProp 𝕄 := semVal ((c : Thread nD τ), SemLoc.dma (inSem s).sem) 0
abbrev outCellP (s : Fin 4) : sProp 𝕄 := semVal ((c : Thread nD τ), SemLoc.dma (outSem s).sem) 0
/-- Chunk `b` of the left operand, the array at contents `x`. -/
abbrev inP (x : Buf (Elt F) (inM.view.loc (c : Thread nD τ))) (b : Fin 16) : sProp 𝕄 :=
  (inChunk b).view.loc (c : Thread nD τ) ↦[(inChunk b).view.set]{fullShare} x
/-- Chunk `b` of the result, the array at contents `y`. -/
abbrev outP (y : Buf (Elt F) (outM.view.loc (c : Thread nD τ))) (b : Fin 16) : sProp 𝕄 :=
  (outChunk b).view.loc (c : Thread nD τ) ↦[(outChunk b).view.set]{fullShare} y

/-- Everything the kernel holds besides the two staged operands: the left operand at `x` and the result at `y`, chunk by
    chunk, both rings at anything, every semaphore at zero. -/
def held (x : Buf (Elt F) (inM.view.loc (c : Thread nD τ))) (y : Buf (Elt F) (outM.view.loc (c : Thread nD τ))) : sProp 𝕄 :=
  iprop(bigSep Finset.univ (inP c x) ∗ bigSep Finset.univ (outP c y)
    ∗ bigSep Finset.univ (fun s => iprop(∃ f, inSlotP c s f)) ∗ bigSep Finset.univ (fun s => iprop(∃ f, outSlotP c s f))
    ∗ bigSep Finset.univ (inCellP c) ∗ bigSep Finset.univ (outCellP c))

omit [FloatOps F] in
/-- A product over the sixteen chunks, written out; -/
theorem bigSep_chunks (Φ : Fin 16 → sProp 𝕄) : bigSep Finset.univ Φ
    = iprop(Φ (chunkFrom 0) ∗ Φ (chunkFrom 1024) ∗ Φ (chunkFrom 2048) ∗ Φ (chunkFrom 3072) ∗ Φ (chunkFrom 4096) ∗ Φ (chunkFrom 5120) ∗ Φ (chunkFrom 6144) ∗ Φ (chunkFrom 7168) ∗ Φ (chunkFrom 8192) ∗ Φ (chunkFrom 9216) ∗ Φ (chunkFrom 10240) ∗ Φ (chunkFrom 11264) ∗ Φ (chunkFrom 12288) ∗ Φ (chunkFrom 13312) ∗ Φ (chunkFrom 14336) ∗ Φ (chunkFrom 15360)) :=
  bigSep_univ_eq_bigSepL [chunkFrom 0, chunkFrom 1024, chunkFrom 2048, chunkFrom 3072, chunkFrom 4096, chunkFrom 5120, chunkFrom 6144, chunkFrom 7168, chunkFrom 8192, chunkFrom 9216, chunkFrom 10240, chunkFrom 11264, chunkFrom 12288, chunkFrom 13312, chunkFrom 14336, chunkFrom 15360] (by decide) (by decide) Φ
omit [FloatOps F] in
/-- over the four slots. -/
theorem bigSep_slots (Φ : Fin 4 → sProp 𝕄) : bigSep Finset.univ Φ = iprop(Φ (slotNo 0) ∗ Φ (slotNo 1) ∗ Φ (slotNo 2) ∗ Φ (slotNo 3)) :=
  bigSep_univ_eq_bigSepL [slotNo 0, slotNo 1, slotNo 2, slotNo 3] (by decide) (by decide) Φ

omit [FloatOps F] in
theorem entails_of_eq {P Q : sProp 𝕄} (e : P = Q) : P ⊢ Q := e ▸ .rfl

/-- Output chunk `b`, once chunk `b` has landed in input slot `s`, the kernel has stored its product in output slot `s`
    and the slot has been copied out: it is chunk `b` of the kernel's whole result. -/
theorem outP_landed (b : Fin 16) (s : Fin 4) (x : Buf (Elt F) (inM.view.loc (c : Thread nD τ))) (w : FVec F S1024x1024 .f32)
    (r : FVec F S1x1024 .f32) (f : (outRing.access (slotRect s)).ty.Contents (Elt F)) (g : (inSlot s).view.ty.Contents (Elt F))
    (L : List (View.Piece (Elt F) S1024x1024 .f32)) (y₀ : Buf (Elt F) (outM.view.loc (c : Thread nD τ))) :
    ((outChunk b).view.loc (c : Thread nD τ) ↦[(outChunk b).view.set]{fullShare}
      (outChunk b).view.writes (Elt F) y₀ [⟨Rect.whole S1024x1024, leaving c b s x w r f g L⟩] : sProp 𝕄) ⊢ outP c (resultOf x w r) b := by
  refine entails_of_eq ((pointsTo_rep (c : Thread nD τ) (outChunk b) _ fullShare).trans (Eq.trans ?_ (pointsTo_rep (c : Thread nD τ) (outChunk b) _ fullShare).symm))
  exact congrArg (fun z => ((outChunk b).view.loc (c : Thread nD τ) ↦[(outChunk b).view.set]{fullShare} (outChunk b).view.rep z : sProp 𝕄))
    ((read_writes_last (outChunk b).view y₀ _ []).trans (leaving_eq c b s x w r f g L))

end Pieces

/-! ### The run -/

section Body
variable (c : Dev nD) (x : Buf (Elt F) (inM.view.loc (c : Thread nD τ))) (y₀ : Buf (Elt F) (outM.view.loc (c : Thread nD τ)))
  (arg1 : Memref sig .tc .vmem S1024x1024 .f32) (harg1 : arg1.IsWhole) (arg2 : Memref sig .tc .vmem S1x1024 .f32) (harg2 : arg2.IsWhole)

/-- The kernel, on what it is called with. -/
abbrev bodyK : Prog (TpuEff nD τ sig (Elt F) Λ₀ .tc) PUnit :=
  cc0__mapper_kernel inM (Memref.isWhole_whole _) arg1 harg1 arg2 harg2 outM (Memref.isWhole_whole _) inRing (Memref.isWhole_whole _) outRing (Memref.isWhole_whole _) cc0_scratch2 cc0_scratch3

/-- The result array the run leaves. -/
abbrev leaves (gW : Buf (Elt F) (arg1.view.loc (c : Thread nD τ))) (gB : Buf (Elt F) (arg2.view.loc (c : Thread nD τ))) :
    Buf (Elt F) (outM.view.loc (c : Thread nD τ)) := resultOf x (loadW c arg1 gW) (loadB c arg2 gB)

/-- From the staged weights `gW`, the staged bias row `gB` and the rest as `held` says, the kernel runs to its end and
    hands everything back, the result array holding, chunk by chunk, what it computes. -/
theorem bodyRun (gW : Buf (Elt F) (arg1.view.loc (c : Thread nD τ))) (gB : Buf (Elt F) (arg2.view.loc (c : Thread nD τ))) (W)
    (Q : PUnit → sProp 𝕄) :
    iprop(((arg1.view.loc (c : Thread nD τ) ↦[arg1.view.set]{fullShare} gW) ∗ (arg2.view.loc (c : Thread nD τ) ↦[arg2.view.set]{fullShare} gB)
        ∗ held c x y₀ ∗ owes (c : Thread nD τ) 0 W)
      ∗ (((arg1.view.loc (c : Thread nD τ) ↦[arg1.view.set]{fullShare} gW) ∗ (arg2.view.loc (c : Thread nD τ) ↦[arg2.view.set]{fullShare} gB)
        ∗ held c x (leaves c x arg1 arg2 gW gB) ∗ ∃ W', owes (c : Thread nD τ) 0 W') -∗ Q ⟨⟩))
      ⊢ wp frame (wpE (defs₀ (F := F)) 𝒱₀ (c : Thread nD τ) none) Set.univ (bodyK arg1 harg1 arg2 harg2) Q := by
  unfold held
  simp only [bigSep_chunks, bigSep_slots]
  iintro ⟨⟨HW, HB, ⟨⟨Hi0, Hi1, Hi2, Hi3, Hi4, Hi5, Hi6, Hi7, Hi8, Hi9, Hi10, Hi11, Hi12, Hi13, Hi14, Hi15⟩, ⟨Ho0, Ho1, Ho2, Ho3, Ho4, Ho5, Ho6, Ho7, Ho8, Ho9, Ho10, Ho11, Ho12, Ho13, Ho14, Ho15⟩, ⟨⟨%f0, Hs0⟩, ⟨%f1, Hs1⟩, ⟨%f2, Hs2⟩, ⟨%f3, Hs3⟩⟩, ⟨⟨%g0, Ht0⟩, ⟨%g1, Ht1⟩, ⟨%g2, Ht2⟩, ⟨%g3, Ht3⟩⟩, ⟨Hc0, Hc1, Hc2, Hc3⟩, ⟨Hd0, Hd1, Hd2, Hd3⟩⟩, Hw⟩, Hk⟩
  sl_exec
  sl_step
  iapply Hk
  isplitl [HW]; · iexact HW
  isplitl [HB]; · iexact HB
  isplitr [Hw]
  · isplitl [Hi0 Hi1 Hi2 Hi3 Hi4 Hi5 Hi6 Hi7 Hi8 Hi9 Hi10 Hi11 Hi12 Hi13 Hi14 Hi15]; · iframe
    isplitl [Ho0 Ho1 Ho2 Ho3 Ho4 Ho5 Ho6 Ho7 Ho8 Ho9 Ho10 Ho11 Ho12 Ho13 Ho14 Ho15]
    · isplitl [Ho0]; · iapply (outP_landed c _ (slotNo 0) x _ _ _ _ _ y₀); iexact Ho0
      isplitl [Ho1]; · iapply (outP_landed c _ (slotNo 1) x _ _ _ _ _ y₀); iexact Ho1
      isplitl [Ho2]; · iapply (outP_landed c _ (slotNo 2) x _ _ _ _ _ y₀); iexact Ho2
      isplitl [Ho3]; · iapply (outP_landed c _ (slotNo 3) x _ _ _ _ _ y₀); iexact Ho3
      isplitl [Ho4]; · iapply (outP_landed c _ (slotNo 0) x _ _ _ _ _ y₀); iexact Ho4
      isplitl [Ho5]; · iapply (outP_landed c _ (slotNo 1) x _ _ _ _ _ y₀); iexact Ho5
      isplitl [Ho6]; · iapply (outP_landed c _ (slotNo 2) x _ _ _ _ _ y₀); iexact Ho6
      isplitl [Ho7]; · iapply (outP_landed c _ (slotNo 3) x _ _ _ _ _ y₀); iexact Ho7
      isplitl [Ho8]; · iapply (outP_landed c _ (slotNo 0) x _ _ _ _ _ y₀); iexact Ho8
      isplitl [Ho9]; · iapply (outP_landed c _ (slotNo 1) x _ _ _ _ _ y₀); iexact Ho9
      isplitl [Ho10]; · iapply (outP_landed c _ (slotNo 2) x _ _ _ _ _ y₀); iexact Ho10
      isplitl [Ho11]; · iapply (outP_landed c _ (slotNo 3) x _ _ _ _ _ y₀); iexact Ho11
      isplitl [Ho12]; · iapply (outP_landed c _ (slotNo 0) x _ _ _ _ _ y₀); iexact Ho12
      isplitl [Ho13]; · iapply (outP_landed c _ (slotNo 1) x _ _ _ _ _ y₀); iexact Ho13
      isplitl [Ho14]; · iapply (outP_landed c _ (slotNo 2) x _ _ _ _ _ y₀); iexact Ho14
      iapply (outP_landed c _ (slotNo 3) x _ _ _ _ _ y₀); iexact Ho15
    isplitl [Hs0 Hs1 Hs2 Hs3]
    · isplitl [Hs0]; · iexists _; iexact Hs0
      isplitl [Hs1]; · iexists _; iexact Hs1
      isplitl [Hs2]; · iexists _; iexact Hs2
      iexists _; iexact Hs3
    isplitl [Ht0 Ht1 Ht2 Ht3]
    · isplitl [Ht0]; · iexists _; iexact Ht0
      isplitl [Ht1]; · iexists _; iexact Ht1
      isplitl [Ht2]; · iexists _; iexact Ht2
      iexists _; iexact Ht3
    isplitl [Hc0 Hc1 Hc2 Hc3]
    · isplitl [Hc0]; · iexact Hc0
      isplitl [Hc1]; · iexact Hc1
      isplitl [Hc2]; · iexact Hc2
      iexact Hc3
    isplitl [Hd0]; · iexact Hd0
    isplitl [Hd1]; · iexact Hd1
    isplitl [Hd2]; · iexact Hd2
    iexact Hd3
  iexists _; iexact Hw

end Body

end Cert.Proof.Ring

end
-- ==== Proof.Split.lean ====
/-
  Whole buffers as the pieces the kernel works on: an array of all the rows is its sixteen chunks, a ring is its four
  slots, the kernel's own semaphores are the two rings' four each.
-/
module

public import proofs.«01_k».proof.Proof.Body
public import Idealize.ShloMosaic.Lib.Pipeline.KitQuiescent

@[expose] public section

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ### The elements of each piece -/

/-- The elements of chunk `b`, and of slot `s`. -/
abbrev chunkSet (b : Fin 16) : Finset S16384x1024.Idx := (chunkRect b).set
abbrev slotSet (s : Fin 4) : Finset S4x1024x1024.Idx := (slotRect s).set

omit [FloatOps F] in
theorem inChunk_set (b : Fin 16) : (inChunk b).view.set = chunkSet b := View.set_slice_whole _ _
omit [FloatOps F] in
theorem outChunk_set (b : Fin 16) : (outChunk b).view.set = chunkSet b := View.set_slice_whole _ _
omit [FloatOps F] in
theorem inSlot_set (s : Fin 4) : (inSlot s).view.set = slotSet s := (View.set_reshape _ _).trans (View.set_slice_whole _ _)
omit [FloatOps F] in
theorem outSlot_set (s : Fin 4) : (outSlot s).view.set = slotSet s := (View.set_reshape _ _).trans (View.set_slice_whole _ _)

private theorem chunkOff_rest (b : Fin 16) (a : Fin 2) (h : a ≠ 0) : chunkOff b a = 0 := by fin_cases a; exact absurd rfl h; rfl
private theorem chunk_rest (a : Fin 2) (h : a ≠ 0) : S1024x1024.size a = S16384x1024.size a := by fin_cases a; exact absurd rfl h; rfl
private theorem slotOff_rest (s : Fin 4) (a : Fin 3) (h : a ≠ 0) : slotOff s a = 0 := by fin_cases a; exact absurd rfl h; rfl; rfl
private theorem slot_rest (a : Fin 3) (h : a ≠ 0) : S1x1024x1024.size a = S4x1024x1024.size a := by fin_cases a; exact absurd rfl h; rfl; rfl

/-- No two chunks share an element, and the chunks are the whole array. -/
theorem chunks_disjoint (b b' : Fin 16) (h : b ≠ b') : Disjoint (chunkSet b) (chunkSet b') :=
  Idealize.ShloMosaic.Ring.lead_disjoint (s := S16384x1024) (a₀ := 0) (R := 1024) chunkOff S1024x1024.size chunkOff_inb (fun _ => rfl) rfl b b' h
theorem chunks_cover : Finset.univ.biUnion chunkSet = Finset.univ :=
  Idealize.ShloMosaic.Ring.lead_cover (s := S16384x1024) (a₀ := 0) (R := 1024) chunkOff S1024x1024.size chunkOff_inb (fun _ => rfl) chunkOff_rest rfl chunk_rest rfl
/-- No two slots share an element, and the slots are the whole ring. -/
theorem slots_disjoint (s s' : Fin 4) (h : s ≠ s') : Disjoint (slotSet s) (slotSet s') :=
  Idealize.ShloMosaic.Ring.lead_disjoint (s := S4x1024x1024) (a₀ := 0) (R := 1) slotOff S1x1024x1024.size slotOff_inb (fun s => (Nat.one_mul s.val).symm) rfl s s' h
theorem slots_cover : Finset.univ.biUnion slotSet = Finset.univ :=
  Idealize.ShloMosaic.Ring.lead_cover (s := S4x1024x1024) (a₀ := 0) (R := 1) slotOff S1x1024x1024.size slotOff_inb (fun s => (Nat.one_mul s.val).symm) slotOff_rest rfl slot_rest rfl

/-! ### Splitting and joining -/

variable (c : Dev nD)

/-- The left operand whole is its chunks. -/
theorem in_eq (x : Buf (Elt F) (inM.view.loc (c : Thread nD τ))) :
    (((c : Thread nD τ).loc main_arg0) ↦{fullShare} x : sProp 𝕄) = bigSep Finset.univ (inP c x) := by
  rw [Idealize.ShloMosaic.Ring.pointsTo_blocks (ℓ := (c : Thread nD τ).loc main_arg0) chunkSet chunks_disjoint chunks_cover]
  exact bigSep_congr fun b _ => by rw [← inChunk_set]; rfl
/-- The result whole is its chunks. -/
theorem out_eq (y : Buf (Elt F) (outM.view.loc (c : Thread nD τ))) :
    (((c : Thread nD τ).loc main_v1) ↦{fullShare} y : sProp 𝕄) = bigSep Finset.univ (outP c y) := by
  rw [Idealize.ShloMosaic.Ring.pointsTo_blocks (ℓ := (c : Thread nD τ).loc main_v1) chunkSet chunks_disjoint chunks_cover]
  exact bigSep_congr fun b _ => by rw [← outChunk_set]; rfl

omit [FloatOps F] in
theorem inSlotP_eq (s : Fin 4) (f) : inSlotP c s f = (((c : Thread nD τ).loc cc0_scratch0) ↦[slotSet s]{fullShare} f : sProp 𝕄) :=
  congrArg (fun S => (_ ↦[S]{fullShare} f : sProp 𝕄)) (inSlot_set s)
omit [FloatOps F] in
theorem outSlotP_eq (s : Fin 4) (f) : outSlotP c s f = (((c : Thread nD τ).loc cc0_scratch1) ↦[slotSet s]{fullShare} f : sProp 𝕄) :=
  congrArg (fun S => (_ ↦[S]{fullShare} f : sProp 𝕄)) (outSlot_set s)

/-- Some contents of the input ring are some contents of each of its slots, -/
theorem inRing_eq :
    (bigSep Finset.univ (fun s => iprop(∃ f, inSlotP c s f)) : sProp 𝕄)
      = bigSep Finset.univ (fun s => iprop(∃ f : Buf (Elt F) ((c : Thread nD τ).loc cc0_scratch0), ((c : Thread nD τ).loc cc0_scratch0) ↦[slotSet s]{fullShare} f)) :=
  bigSep_congr fun s _ => congrArg (fun Φ => iprop(∃ f, Φ f)) (funext (inSlotP_eq c s))
theorem outRing_eq :
    (bigSep Finset.univ (fun s => iprop(∃ f, outSlotP c s f)) : sProp 𝕄)
      = bigSep Finset.univ (fun s => iprop(∃ f : Buf (Elt F) ((c : Thread nD τ).loc cc0_scratch1), ((c : Thread nD τ).loc cc0_scratch1) ↦[slotSet s]{fullShare} f)) :=
  bigSep_congr fun s _ => congrArg (fun Φ => iprop(∃ f, Φ f)) (funext (outSlotP_eq c s))

/-- Four slots at one contents are four slots at some contents each. -/
private theorem slots_some {ℓ : Loc nD τ sig} (S : Fin 4 → Finset (Idx ℓ)) (f : Buf (Elt F) ℓ) :
    (bigSep Finset.univ (fun s => ℓ ↦[S s]{fullShare} f) : sProp 𝕄) ⊢ bigSep Finset.univ (fun s => iprop(∃ g, ℓ ↦[S s]{fullShare} g)) :=
  bigSep_mono fun _ _ => exists_intro (Φ := fun g => iprop(_ ↦[_]{fullShare} g)) f

theorem inRing_split :
    iprop(∃ f : Buf (Elt F) ((c : Thread nD τ).loc cc0_scratch0), ((c : Thread nD τ).loc cc0_scratch0) ↦{fullShare} f)
      ⊢ (bigSep Finset.univ (fun s => iprop(∃ f, inSlotP c s f)) : sProp 𝕄) := by
  rw [inRing_eq]
  iintro ⟨%f, H⟩
  iapply (slots_some (ℓ := (c : Thread nD τ).loc cc0_scratch0) slotSet f)
  iapply (entails_of_eq (Idealize.ShloMosaic.Ring.pointsTo_blocks (Ix := Unit) (Name := ℕ) (U := UU nD τ) (Lvl := ℕ) (q := fullShare) (ℓ := (c : Thread nD τ).loc cc0_scratch0) slotSet slots_disjoint slots_cover f))
  iexact H
theorem outRing_split :
    iprop(∃ f : Buf (Elt F) ((c : Thread nD τ).loc cc0_scratch1), ((c : Thread nD τ).loc cc0_scratch1) ↦{fullShare} f)
      ⊢ (bigSep Finset.univ (fun s => iprop(∃ f, outSlotP c s f)) : sProp 𝕄) := by
  rw [outRing_eq]
  iintro ⟨%f, H⟩
  iapply (slots_some (ℓ := (c : Thread nD τ).loc cc0_scratch1) slotSet f)
  iapply (entails_of_eq (Idealize.ShloMosaic.Ring.pointsTo_blocks (Ix := Unit) (Name := ℕ) (U := UU nD τ) (Lvl := ℕ) (q := fullShare) (ℓ := (c : Thread nD τ).loc cc0_scratch1) slotSet slots_disjoint slots_cover f))
  iexact H

/-- and back. -/
theorem inRing_join :
    (bigSep Finset.univ (fun s => iprop(∃ f, inSlotP c s f)) : sProp 𝕄)
      ⊢ iprop(∃ f : Buf (Elt F) ((c : Thread nD τ).loc cc0_scratch0), ((c : Thread nD τ).loc cc0_scratch0) ↦{fullShare} f) := by
  rw [inRing_eq]
  exact Idealize.ShloMosaic.Ring.pointsTo_blocks_join_exists (ℓ := (c : Thread nD τ).loc cc0_scratch0) slotSet slots_disjoint slots_cover (fun _ => Classical.arbitrary _)
theorem outRing_join :
    (bigSep Finset.univ (fun s => iprop(∃ f, outSlotP c s f)) : sProp 𝕄)
      ⊢ iprop(∃ f : Buf (Elt F) ((c : Thread nD τ).loc cc0_scratch1), ((c : Thread nD τ).loc cc0_scratch1) ↦{fullShare} f) := by
  rw [outRing_eq]
  exact Idealize.ShloMosaic.Ring.pointsTo_blocks_join_exists (ℓ := (c : Thread nD τ).loc cc0_scratch1) slotSet slots_disjoint slots_cover (fun _ => Classical.arbitrary _)

/-! ### The kernel's own semaphores -/

/-- One semaphore for each slot of each ring. -/
abbrev ownSem : Fin 4 ⊕ Fin 4 → SemLoc sig := Sum.elim (fun s => .dma (inSem s).sem) (fun s => .dma (outSem s).sem)
theorem ownSemFacts : Pipeline.OwnSemFacts spec0 ownSem := by decide

omit [FloatOps F] in
/-- All of them at zero are the input ring's at zero and the output ring's. -/
theorem ownSems0_eq : (Pipeline.ownSems0 (Ix := Unit) (Name := ℕ) (U := UU nD τ) (Lvl := ℕ) (Val := Elt F) (τ := τ) ownSem c : sProp 𝕄)
    = iprop(bigSep Finset.univ (inCellP c) ∗ bigSep Finset.univ (outCellP c)) := by
  unfold Pipeline.ownSems0; rw [bigSep_univ_sum]; rfl

end Cert.Proof.Ring

end
-- ==== Proof.Launch.lean ====
/-
  The whole program's run: the host reshapes the bias to a row, then the kernel runs once with the weights and that row
  staged. It ends with the result array holding what the kernel computes chunk by chunk, the four arguments as they
  were, and every semaphore at zero.
-/
module

public import proofs.«01_k».proof.Proof.Split
public import proofs.«01_k».proof.Proof.Gen.KernelIdeal.Frame

@[expose] public section

noncomputable section

namespace Cert.Proof.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Where the pipeline library's ghost state sits: beside the kernel's own counters. -/
abbrev EP : Emb (UR sig nD τ) (MT nD τ sig Unit (Elt F) ℕ (UU nD τ) ℕ) := embL

variable (m : (ℓ : Loc nD τ sig) → Buf (Elt F) ℓ) (ρ : Dev nD → PrngReg)

/-! ### What the region finds and leaves -/

/-- The left operand, and the result array, as the region finds them. -/
abbrev entryX (c : Dev nD) : Buf (Elt F) (inM.view.loc (c : Thread nD τ)) := V m c main_arg0
abbrev entryY (c : Dev nD) : Buf (Elt F) (outM.view.loc (c : Thread nD τ)) := V m c main_v1
/-- The result array as the region leaves it. -/
def exitY (c : Dev nD) : Buf (Elt F) (outM.view.loc (c : Thread nD τ)) :=
  leaves c (entryX m c) (st0_0 t0_0) (st0_1 t0_0) ((st0_0 t0_0).view.rep (iblk m c 0 t0_0)) ((st0_1 t0_0).view.rep (iblk m c 1 t0_0))

/-- What the region's one point carries: the result array as found before it, as computed after it. -/
def carried (c : Dev nD) (p : Fin (cfg0.N + 1)) : sProp 𝕄 := held c (entryX m c) (if p.val = 0 then entryY m c else exitY m c)
theorem carried_before (c : Dev nD) : carried m c 0 = held c (entryX m c) (entryY m c) := rfl
theorem carried_after (c : Dev nD) : carried m c (Fin.last cfg0.N) = held c (entryX m c) (exitY m c) := by
  unfold carried; rw [if_neg (by decide)]

/-- The proof data of the region: the kernel leaves the two staged operands as they are. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ p := carried m c p
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-! ### The kernel's run, at the region's point -/

theorem defs_tc : (defs₀ (F := F)) .tc cfg0.body
    = fun a => bodyK (win0_0.stage (a.2 0)) (hstage0_0 0) (win0_1.stage (a.2 1)) (hstage0_1 0) := rfl
theorem prog_eq (t : Fin cfg0.N) : (defs₀ (F := F)) .tc cfg0.body (cfg0.bodyArgs t (cfg0.slots t))
    = bodyK (st0_0 t) (hstage0_0 0) (st0_1 t) (hstage0_1 0) := (congrFun defs_tc _).trans rfl

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, after_w0, after_w1]
  rw [show (dats m 0 c).Φ (t0_0 : Fin cfg0.N).castSucc = held c (entryX m c) (entryY m c) from rfl,
    show (dats m 0 c).Φ (t0_0 : Fin cfg0.N).succ = held c (entryX m c) (exitY m c) from rfl]
  unfold Dat.owesAt Pipeline.owesWithin
  rw [show (dats m 0 c).owed (t0_0 : Fin cfg0.N).castSucc = 0 from rfl, show (dats m 0 c).owed (t0_0 : Fin cfg0.N).succ = 0 from rfl]
  unfold owns
  iintro ⟨HΦ, ⟨%W, -, HW⟩, ⟨%d0, %g0, %hg0, H0⟩, ⟨%d1, %g1, %hg1, H1⟩⟩
  ihave H0' := (pointsTo_rep_entails (c : Thread nD τ) (st0_0 t0_0) g0 fullShare) $$ H0
  ihave H1' := (pointsTo_rep_entails (c : Thread nD τ) (st0_1 t0_0) g1 fullShare) $$ H1
  rw [hg0, hg1]
  sl_rw [prog_eq t0_0]
  iapply (bodyRun c (entryX m c) (entryY m c) (st0_0 t0_0) (hstage0_0 0) (st0_1 t0_0) (hstage0_1 0) _ _ W)
  isplitl [H0' H1' HΦ HW]
  · isplitl [H0']; · iexact H0'
    isplitl [H1']; · iexact H1'
    isplitl [HΦ]; · iexact HΦ
    iexact HW
  · iintro ⟨H0, H1, HΦ, ⟨%W', HW⟩⟩
    isplitl [HΦ]; · iexact HΦ
    isplitl [HW]
    · iexists W'; isplitr; · ipureintro; exact fun _ _ => Or.inl trivial
      iexact HW
    isplitl [H0]
    · iexists _; isplitr; · ipureintro; exact View.read_rep _ _
      iexact H0
    iexists _; isplitr; · ipureintro; exact View.read_rep _ _
    iexact H1

/-! ### The launch -/

/-- What goes into the region besides what it scopes itself. -/
def into (c : Dev nD) : sProp 𝕄 :=
  iprop(bigSep Finset.univ (inP c (entryX m c)) ∗ bigSep Finset.univ (outP c (entryY m c)) ∗ Pipeline.ownSems0 ownSem c)
/-- What comes out of it. -/
def outOf (c : Dev nD) : sProp 𝕄 :=
  iprop((((c : Thread nD τ).loc main_arg0) ↦{fullShare} entryX m c) ∗ (((c : Thread nD τ).loc main_v1) ↦{fullShare} exitY m c))
/-- What goes by it: the second argument, which no one reads, and the bias as launched. -/
def aside (c : Dev nD) : sProp 𝕄 :=
  iprop((((c : Thread nD τ).loc main_arg1) ↦{fullShare} V m c main_arg1) ∗ (((c : Thread nD τ).loc main_arg3) ↦{fullShare} V m c main_arg3))
def u₀ : UU nD τ := (initOf (Pipeline.cells cfgs cellOf_inj) (Pipeline.launchToks cfgs cellOf_inj), 1)

/-- The memory as those resources fix it. -/
def Fixed (c : Dev nD) (s : MemSt nD τ sig (Elt F)) : Prop :=
  (s.mem ((c : Thread nD τ).loc main_v1) = exitY m c ∧ s.mem ((c : Thread nD τ).loc main_arg0) = V m c main_arg0)
    ∧ s.mem ((c : Thread nD τ).loc main_arg1) = V m c main_arg1 ∧ s.mem ((c : Thread nD τ).loc main_arg3) = V m c main_arg3

set_option backward.isDefEq.respectTransparency.types false in
/-- From any memory with every semaphore at zero, the program runs to its end on every weakly fair schedule; the result
    array then holds `exitY`, the four arguments are as launched, every semaphore is at zero. -/
theorem run_main : θ_run defs (onTc (τ := τ) (main (F := F))) ⟨m, fun _ => 0, ρ⟩ (fun r =>
    (∀ c : Dev nD, r.2.mem ((c : Thread nD τ).loc main_v1) = exitY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := into m) (Y := outOf m) (Z := aside m)
    (hX := fun c => by
      rw [unscopedRest0_eq, in_eq c (entryX m c), out_eq c (entryY m c)]
      unfold into aside
      iintro ⟨⟨H0, H1, H3, Hv⟩, HS, -, -, -⟩; imodintro
      isplitl [H0 Hv HS]
      · isplitl [H0]; · iexact H0
        isplitl [Hv]; · iexact Hv
        iexact HS
      isplitl [H1]; · iexact H1
      iexact H3)
    (hin := fun c => by
      rw [scopedRest0_eq, show (dats m 0 c).Φ 0 = held c (entryX m c) (entryY m c) from rfl]
      unfold into held; rw [ownSems0_eq]
      iintro ⟨⟨Hi, Ho, Hc, Hd⟩, Hr, Hq⟩
      isplitl [Hi]; · iexact Hi
      isplitl [Ho]; · iexact Ho
      isplitl [Hr]; · iapply (inRing_split c); iexact Hr
      isplitl [Hq]; · iapply (outRing_split c); iexact Hq
      isplitl [Hc]; · iexact Hc
      iexact Hd)
    (hout := fun c => by
      rw [scopedRest0_eq, show (dats m 0 c).Φ (Fin.last cfg0.N) = held c (entryX m c) (exitY m c) from carried_after m c, ownSems0_eq]
      unfold held outOf; rw [in_eq c (entryX m c), out_eq c (exitY m c)]
      iintro ⟨Hi, Ho, Hr, Hq, Hc, Hd⟩
      isplitl [Hi Ho]
      · isplitl [Hi]; · iexact Hi
        iexact Ho
      isplitl [Hc Hd]
      · isplitl [Hc]; · iexact Hc
        iexact Hd
      isplitl [Hr]; · iapply (inRing_join c); iexact Hr
      iapply (outRing_join c); iexact Hq)
    (QY := Fixed m)
    (hY := fun c s' => by
      unfold outOf aside
      iintro ⟨⟨H0, Hv⟩, ⟨H1, H3⟩, HSI⟩
      icombine HSI H0 gives %h0
      icombine HSI Hv gives %hv
      icombine HSI H1 gives %h1
      icombine HSI H3 gives %h3
      imodintro
      isplitr
      · ipureintro
        exact ⟨⟨Buf.eq_of_forall_mem_univ hv, Buf.eq_of_forall_mem_univ h0⟩, Buf.eq_of_forall_mem_univ h1, Buf.eq_of_forall_mem_univ h3⟩
      iexact HSI)
    (hQ := fun _ hh hz => ⟨fun c => ⟨(hh c).2.1.1, (hh c).2.1.2.trans (V_main_arg0 m c), (hh c).2.2.1.trans (V_main_arg1 m c),
      ((hh c).1 0).trans (((dats m 0 c).arrAt_in 0 rfl _).trans (V_main_arg2 m c)), (hh c).2.2.2.trans (V_main_arg3 m c)⟩, hz⟩)

end Cert.Proof.Ring

end
-- ==== Proof.Contents.lean ====
/-
  What the whole program leaves in the result array, as a function of its arguments: the kernel's chunk-by-chunk result
  of the left operand, the weights as given, and the bias as one row.
-/
module

public import proofs.«01_k».proof.Proof.Launch
public import Idealize.ShloMosaic.Lib.Pipeline.Value

@[expose] public section

noncomputable section

namespace Cert.Proof.Ring

open Cert.KernelIdeal Cert.KernelIdeal.Gen
open Idealize.ShloMosaic
open Idealize.ShloMosaic.TcCoe Idealize.SL.Sem

variable {F : FTy → Type} [FloatOps F] (m : (ℓ : Loc nD τ sig) → Buf (Elt F) ℓ)

/-- The bias as one row. -/
abbrev biasRow (b : FVec F S1024 .f32) : FVec F S1x1024 .f32 := shapeCast S1x1024 b shapeCasts_S1024_S1x1024

private theorem two_zeros : (![0, 0] : Fin 2 → Nat) = fun _ => 0 := by funext a; fin_cases a <;> rfl

/-- A load of a whole view reads what was put there. -/
private theorem load_rep {s : Shape} {off : Fin s.rank → Nat} (h0 : off = fun _ => 0) (arg : Memref sig .tc .vmem s .f32)
    (inb : ∀ a, off a + s.size a ≤ s.size a) (w : FVec F s .f32) :
    arg.view.readAt (Elt F) (Rect.unit (s := s) off s.size inb).toLoadRect (arg.view.rep w) = w := by
  subst h0
  funext j
  rw [View.readAt_apply, View.read_rep]
  refine congrArg w (funext fun a => Fin.ext ?_)
  show 0 + 1 * (j a).val = (j a).val
  omega
/-- The kernel's two loads read what is staged, whole. -/
theorem loadW_rep (c : Dev nD) (arg1 : Memref sig .tc .vmem S1024x1024 .f32) (w : FVec F S1024x1024 .f32) :
    loadW c arg1 (arg1.view.rep w) = w := load_rep two_zeros arg1 _ w
theorem loadB_rep (c : Dev nD) (arg2 : Memref sig .tc .vmem S1x1024 .f32) (r : FVec F S1x1024 .f32) :
    loadB c arg2 (arg2.view.rep r) = r :=
  (shapeCast_self (s := S1x1024) _ shapeCasts_S1x1024_S1x1024).trans (load_rep two_zeros arg2 _ r)

/-- The region finds the bias reshaped to a row. -/
theorem V_row (c : Dev nD) : V m c main_v0 = biasRow (m ((c : Thread nD τ).loc main_arg3)) := by
  show StableHlo.after hostOps0 (fun b => m (c, b)) (Proc.devRef .tc main_v0) = _
  unfold hostOps0
  after_results
  rfl

/-- What is staged of each window is its array, whole. -/
theorem staged_W (c : Dev nD) : iblk m c 0 t0_0 = m ((c : Thread nD τ).loc main_arg2) := by
  refine Eq.trans ?_ (V_main_arg2 m c)
  unfold iblk
  funext j
  rw [View.read_apply]
  refine congrArg (V m c main_arg2) (funext fun a => Fin.ext ?_)
  show 0 * _ + 1 * (j a).val = (j a).val
  omega
theorem staged_B (c : Dev nD) : iblk m c 1 t0_0 = biasRow (m ((c : Thread nD τ).loc main_arg3)) := by
  refine Eq.trans ?_ (V_row m c)
  unfold iblk
  funext j
  rw [View.read_apply]
  refine congrArg (V m c main_v0) (funext fun a => Fin.ext ?_)
  show 0 * _ + 1 * (j a).val = (j a).val
  omega

/-- The result array the program leaves. -/
theorem exitY_eq (c : Dev nD) : exitY m c
    = resultOf (m ((c : Thread nD τ).loc main_arg0)) (m ((c : Thread nD τ).loc main_arg2)) (biasRow (m ((c : Thread nD τ).loc main_arg3))) := by
  have hx : entryX m c = m ((c : Thread nD τ).loc main_arg0) := V_main_arg0 m c
  have hw := (loadW_rep c (st0_0 t0_0) (iblk m c 0 t0_0)).trans (staged_W m c)
  have hb := (loadB_rep c (st0_1 t0_0) (iblk m c 1 t0_0)).trans (staged_B m c)
  unfold exitY leaves
  exact (congrArg (fun x => resultOf x _ _) hx).trans ((congrArg (fun w => resultOf _ w _) hw).trans (congrArg (fun r => resultOf _ _ r) hb))

end Cert.Proof.Ring

end
-- ==== Proof.Equation.lean ====
/-
  The equation, over the extended reals: the kernel's result of a left operand `x`, weights `w` and a bias `b` is the
  reference's. Both are, at row `i` and column `k`, the positive part of `∑ l, x i l * w l k + b k`.
-/
module

public import proofs.«01_k».proof.Proof.Contents
public import proofs.«01_k».proof.Proof.Gen.ReferenceIdeal.Read
public import Idealize.ShloMosaic.Lib.MatmulPlain
public import Idealize.ShloMosaic.Lib.ValueIdx

@[expose] public section

noncomputable section

namespace Cert.Proof.Ring

open Cert.KernelIdeal Cert.KernelIdeal.Gen
open Idealize.ShloMosaic Idealize.ShloMosaic.ValueIdx
open scoped BigOperators

/-- What both compute at row `p` and column `q` of the whole result. -/
def dense (x : FVec Ideal S16384x1024 .f32) (w : FVec Ideal S1024x1024 .f32) (b : FVec Ideal S1024 .f32) (p : Fin 16384) (q : Fin 1024) : EReal :=
  max ((∑ k : Fin 1024, x (ix2 p k) * w (ix2 k q)) + b (ix1 q)) 0

/-- The bias row at column `q`, broadcast to a block, is the bias at `q` in every row. -/
theorem biasRow_apply (b : FVec Ideal S1024 .f32) (p q : Fin 1024) :
    broadcastTo S1024x1024 (biasRow b) broadcasts_S1x1024_S1024x1024 (ix2 p q) = b (ix1 q) := by
  rw [broadcastTo_apply (biasRow b) broadcasts_S1x1024_S1024x1024 (ix2 p q) (ix2 (0 : Fin 1) q) (fun a => by fin_cases a <;> rfl)]
  refine shapeCast_apply b _ _ _ ?_
  rw [Shape.rowMajor_val_one, Shape.rowMajor_val_two]
  show q.val = 0 * 1024 + q.val
  omega

/-- One block of the kernel's, at row `p` and column `q`. -/
theorem blockOf_apply (a w : FVec Ideal S1024x1024 .f32) (b : FVec Ideal S1024 .f32) (p q : Fin 1024) :
    blockOf a w (biasRow b) (ix2 p q) = max ((∑ k : Fin 1024, a (ix2 p k) * w (ix2 k q)) + b (ix1 q)) 0 := by
  unfold blockOf
  rw [maximumf_apply, addf_apply, biasRow_apply, broadcast_apply]
  have hm : matmul dot_S1024x1024_S1024x1024_S1024x1024_1_0_0_1_n_n none a w (constant S1024x1024 .f32 0x00000000#32) (ix2 p q)
      = ∑ k : Fin 1024, a (ix2 p k) * w (ix2 k q) :=
    (Ideal.matmul_plain_apply none a w (constant S1024x1024 .f32 0x00000000#32) p q).trans
      ((congrArg (· + _) Ideal.ofBits_zero_f32).trans (zero_add _))
  rw [hm]
  exact congrArg (max _) Ideal.ofBits_zero_f32

/-- The kernel's whole result. -/
theorem resultOf_apply (x : FVec Ideal S16384x1024 .f32) (w : FVec Ideal S1024x1024 .f32) (b : FVec Ideal S1024 .f32) (p : Fin 16384) (q : Fin 1024) :
    resultOf x w (biasRow b) (ix2 p q) = dense x w b p q := by
  show blockOf (rows (chunkAt (ix2 p q)) x) w (biasRow b) (ix2 _ q) = _
  rw [blockOf_apply]
  have hx : ∀ k : Fin 1024, rows (chunkAt (ix2 p q)) x (ix2 (⟨p.val % 1024, Nat.mod_lt _ (by decide)⟩ : Fin 1024) k) = x (ix2 p k) := fun k =>
    congrArg x (emb_within (ix2 p k))
  unfold dense
  exact congrArg (fun s => max (s + b (ix1 q)) 0) (Finset.sum_congr rfl fun k _ => congrArg (· * w (ix2 k q)) (hx k))

/-- The reference's whole result. -/
theorem reference_apply (x : FVec Ideal S16384x1024 .f32) (w : FVec Ideal S1024x1024 .f32) (b : FVec Ideal S1024 .f32) (p : Fin 16384) (q : Fin 1024) :
    Cert.ReferenceIdeal.Read.val_main_v4 (F := Ideal) x w b (ix2 p q) = dense x w b p q := by
  rw [Cert.ReferenceIdeal.Read.val_main_v4_apply, Cert.ReferenceIdeal.Read.val_main_v3_apply,
    Cert.ReferenceIdeal.Read.val_main_v0_apply, Cert.ReferenceIdeal.Read.val_main_v2_apply, Cert.ReferenceIdeal.Read.val_main_v1_apply,
    Cert.ReferenceIdeal.Read.val_main_call0_v0_apply, Cert.ReferenceIdeal.Read.val_main_call0_cst_apply]
  have hl : ∀ k : Fin 1024, Cert.ReferenceIdeal.Read.lidx_main_v0 (ix2 p q) k = ix2 p k := fun k => by funext a; fin_cases a <;> rfl
  have hr : ∀ k : Fin 1024, Cert.ReferenceIdeal.Read.ridx_main_v0 (ix2 p q) k = ix2 k q := fun k => by funext a; fin_cases a <;> rfl
  have hb : Cert.ReferenceIdeal.Read.idx_main_v1 (Cert.ReferenceIdeal.Read.idx_main_v2 (ix2 p q)) = ix1 q := by funext a; fin_cases a; rfl
  simp only [hl, hr, hb]
  exact congrArg (max _) Ideal.ofBits_zero_f32

/-- The two whole results are equal. -/
theorem equation (x : FVec Ideal S16384x1024 .f32) (w : FVec Ideal S1024x1024 .f32) (b : FVec Ideal S1024 .f32) :
    Cert.ReferenceIdeal.Read.val_main_v4 (F := Ideal) x w b = resultOf x w (biasRow b) := by
  funext i
  have e : i = ix2 (i 0 : Fin 16384) (i 1 : Fin 1024) := by funext a; fin_cases a <;> rfl
  rw [e]
  exact (reference_apply x w b _ _).trans (resultOf_apply x w b _ _).symm

end Cert.Proof.Ring

end
-- ==== Proof.lean ====
/-
  The claim: the kernel ends on every schedule, leaves its arguments as they were and every semaphore at zero — at the
  machine's floats and over the extended reals; the reference does too; and over the extended reals the kernel and the
  reference, from equal arguments, end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.SameText
public import proofs.«01_k».proof.Proof.Contents
public import proofs.«01_k».proof.Proof.Equation
public import Idealize.ShloMosaic.Adequacy
public import Idealize.ShloMosaic.Init

@[expose] public section

noncomputable section

namespace Cert.Proof

open Idealize.ShloMosaic Idealize.SL.Sem

/-- The kernel at the machine's floats: its run ends, its arguments are unchanged, its semaphores are at zero. It is the
    idealized text's run, read at those floats. -/
theorem kernel_frame : Cert.quiescent_Kernel := by
  intro m g _
  have h := (θ_run (Cert.KernelIdeal.defs (F := Bits)) _ _).mono
    (fun r (hr : _ ∧ _) => (⟨fun c => (hr.1 c).2, hr.2⟩ : (∀ c : Dev Cert.KernelIdeal.nD, _) ∧ _)) (Ring.run_main (F := Bits) m g)
  rw [← SameText.defs_eq] at h
  exact h

/-- The same over the extended reals. -/
theorem ideal_frame : Cert.quiescent_KernelIdeal := fun m g _ =>
  (θ_run (Cert.KernelIdeal.defs (F := Ideal)) _ _).mono (fun r (hr : _ ∧ _) => ⟨fun c => (hr.1 c).2, hr.2⟩) (Ring.run_main (F := Ideal) m g)

/-- The reference, which declares no semaphore. -/
theorem reference_frame : Cert.quiescent_ReferenceIdeal := fun m g _ =>
  (θ_run (Cert.ReferenceIdeal.defs (F := Ideal)) _ _).mono
    (fun r hr => ⟨fun c => (hr c).2, Idealize.ShloMosaic.sem_eq_zero_of_no_sems (by decide) r.2⟩) (Cert.ReferenceIdeal.Value.run (F := Ideal) m g)

/-- From equal arguments the kernel and the reference end with equal results: both runs' result is the kernel's
    chunk-by-chunk result of the arguments, which `Ring.equation` says the reference computes. -/
theorem equal_results : Cert.algebraic_KernelIdeal_ReferenceIdeal := by
  intro m g m' g' _ hargs
  refine ⟨fun c => Ring.exitY (F := Ideal) m c, ?_, ?_⟩
  · exact (θ_run (Cert.KernelIdeal.defs (F := Ideal)) _ _).mono (fun r (hr : _ ∧ _) => hr.1) (Ring.run_main (F := Ideal) m g)
  · refine (θ_run (Cert.ReferenceIdeal.defs (F := Ideal)) _ _).mono (fun r hr c => ⟨?_, (hr c).2⟩) (Cert.ReferenceIdeal.Value.run (F := Ideal) m' g')
    obtain ⟨h0, -, h2, h3⟩ := hargs c
    refine (hr c).1.trans ((Cert.ReferenceIdeal.Read.val_main_v4_eq _ _ _).trans ((Ring.equation _ _ _).trans (Eq.trans ?_ (Ring.exitY_eq m c).symm)))
    exact (congrArg (fun x => Ring.resultOf x _ _) h0).trans ((congrArg (fun w => Ring.resultOf _ w _) h2).trans
      (congrArg (fun b => Ring.resultOf _ _ (Ring.biasRow b)) h3))

theorem claim : Cert.Claim := ⟨Cert.Kernel.Gen.facts, Cert.KernelIdeal.Gen.facts, Cert.ReferenceIdeal.Gen.facts,
  kernel_frame, ideal_frame, reference_frame, trivial, equal_results⟩

end Cert.Proof

end
